-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S128x32768 : Shape := ⟨2, ![128, 32768]⟩
abbrev S_ : Shape := ⟨0, ![]⟩

class Facts : Prop where
  bcast_S_S128x32768 : S_.BroadcastsInDim S128x32768 (![] : Fin 0 → Fin S128x32768.rank)
  reducesTo_S128x32768_S_d0_1 : S128x32768.ReducesTo [0, 1] S_
  h_S_ : 0 < S_.numel

variable [Facts]

def fn {F : FTy → Type} [FloatOps F] (main_arg0 : FVec F S128x32768 .f32) (main_arg1 : IVec S128x32768 1) : IVec S_ 1 :=
  let main_cst : FVec F S_ .f32 := constant S_ .f32 0x00000000#32
  let main_v0 : FVec F S128x32768 .f32 := broadcastInDim S128x32768 ![] bcast_S_S128x32768 main_cst
  let main_v1 : IVec S128x32768 1 := cmpf .oge main_arg0 main_v0
  let main_c : IVec S_ 1 := constantI S_ 1 1#1
  let main_v2 : IVec S_ 1 := (fun x v => Host.reduce IntOp.andi x v reducesTo_S128x32768_S_d0_1 h_S_) main_v1 main_c
  main_v2
-- ==== Kernel.lean ====
abbrev S128x32768 : Shape := ⟨2, ![128, 32768]⟩
abbrev S1x1 : Shape := ⟨2, ![1, 1]⟩
abbrev S8x32768 : Shape := ⟨2, ![8, 32768]⟩
abbrev S32x32768 : Shape := ⟨2, ![32, 32768]⟩
abbrev S_ : Shape := ⟨0, ![]⟩
abbrev S8x2048 : Shape := ⟨2, ![8, 2048]⟩
abbrev S1x8x32768 : Shape := ⟨3, ![1, 8, 32768]⟩
abbrev S1 : Shape := ⟨1, ![1]⟩
abbrev S1x1x1 : Shape := ⟨3, ![1, 1, 1]⟩
abbrev S1x8x2048 : Shape := ⟨3, ![1, 8, 2048]⟩

abbrev nBuf : Space → Nat
  | .hbm => 8
  | .vmem => 11
  | .smem => 1
  | _ => 0

abbrev bufTy : (tb : Table) → Fin (tcTables nBuf tb) → BufTy
  | .hbm, ⟨0, _⟩ => ⟨S128x32768, .f32⟩
  | .hbm, ⟨1, _⟩ => ⟨S128x32768, .i1⟩
  | .hbm, ⟨2, _⟩ => ⟨S128x32768, .i8⟩
  | .hbm, ⟨3, _⟩ => ⟨S128x32768, .i8⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8x32768, .f32⟩
  | .local _ .vmem, ⟨1, _⟩ => ⟨S8x32768, .f32⟩
  | .local _ .vmem, ⟨2, _⟩ => ⟨S8x32768, .f32⟩
  | .local _ .vmem, ⟨3, _⟩ => ⟨S8x32768, .f32⟩
  | .local _ .vmem, ⟨4, _⟩ => ⟨S8x32768, .f32⟩
  | .local _ .vmem, ⟨5, _⟩ => ⟨S8x32768, .f32⟩
  | .local _ .vmem, ⟨6, _⟩ => ⟨S8x32768, .f32⟩
  | .local _ .vmem, ⟨7, _⟩ => ⟨S8x32768, .f32⟩
  | .local _ .vmem, ⟨8, _⟩ => ⟨S8x32768, .f32⟩
  | .local _ .vmem, ⟨9, _⟩ => ⟨S8x32768, .i32⟩
  | .local _ .vmem, ⟨10, _⟩ => ⟨S32x32768, .i8⟩
  | .local _ .smem, ⟨0, _⟩ => ⟨S1x1, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c32_i32 : BitVec 32 := 32#32
  let v0 : BitVec 32 := Scalar.muli arg0 c32_i32
  let c0_i32 : BitVec 32 := 0#32
  ![v0.toNat, 0]
def k0_cond3 (i : grid0.Coords) : BitVec 1 :=
  let arg0 : BitVec 32 := BitVec.ofNat 32 (i 0).val
  let c3_i32 : BitVec 32 := 3#32
  let v45 : BitVec 1 := Scalar.cmpi .eq arg0 c3_i32
  let v46 : BitVec 32 := Scalar.extui v45
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "ln2" => some ((Real.log 2 : ℝ) : EReal)
  | _ => none
-- ==== ReferenceIdeal.lean ====
abbrev S128x32768 : Shape := ⟨2, ![128, 32768]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .i1⟩
  | .hbm, ⟨2, _⟩ => ⟨S_, .f32⟩
  | .hbm, ⟨3, _⟩ => ⟨S128x32768, .f32⟩
  | .hbm, ⟨4, _⟩ => ⟨S128x32768, .f32⟩
  | .hbm, ⟨5, _⟩ => ⟨S128x32768, .f32⟩
  | .hbm, ⟨6, _⟩ => ⟨S128x32768, .f32⟩
  | .hbm, ⟨7, _⟩ => ⟨S_, .f32⟩
  | .hbm, ⟨8, _⟩ => ⟨S_, .f32⟩
  | .hbm, ⟨9, _⟩ => ⟨S128x32768, .f32⟩
  | .hbm, ⟨10, _⟩ => ⟨S128x32768, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩

abbrev nD : Nat := 1
abbrev τ : Topo := Topo.v7x

variable {F : FTy → Type} [FloatOps F]
-- ==== Proof.Steps.lean ====
/- What the kernel computes, as functions of whole arrays: the product of four masked factors, the split of an array into
   biased exponents and mantissas, and the last point's fold of sixteen column slabs into one scalar. -/
module

public import proofs.«01_k».proof.Proof.Gen.KernelIdeal

@[expose] public section

noncomputable section

namespace Cert.KernelIdeal.Steps

open Idealize.ShloMosaic Cert.KernelIdeal.Gen

variable {F : FTy → Type} [FloatOps F] [Named F]

/-! ## The split -/

/-- One rung of the ladder: a comparison, its bound, the scale that is applied where it holds, and the amount that is then
    taken off the exponent. The two floats are given by their bits. -/
structure Rung where
  /-- the comparison -/
  p : CmpFPredicate
  /-- the bound -/
  b : BitVec 32
  /-- the scale -/
  k : BitVec 32
  /-- what the exponent loses -/
  d : BitVec 32

/-- The nine rungs. -/
def rungs : List Rung :=
  [⟨.oge, 0x40000000#32, 0x1F800000#32, 4294967232#32⟩, ⟨.oge, 0x40000000#32, 0x1F800000#32, 4294967232#32⟩,
   ⟨.olt, 0x20000000#32, 0x5F800000#32, 64#32⟩, ⟨.olt, 0x30000000#32, 0x4F800000#32, 32#32⟩,
   ⟨.olt, 0x38000000#32, 0x47800000#32, 16#32⟩, ⟨.olt, 0x3C000000#32, 0x43800000#32, 8#32⟩,
   ⟨.olt, 0x3E000000#32, 0x41800000#32, 4#32⟩, ⟨.olt, 0x3F000000#32, 0x40800000#32, 2#32⟩,
   ⟨.olt, 0x3F800000#32, 0x40000000#32, 1#32⟩]

/-- Where the rung's comparison holds of the mantissas. -/
def Rung.holds {s : Shape} (r : Rung) (x : FVec F s .f32) : IVec s 1 :=
  cmpf r.p x (broadcast s (Scalar.ofBits .f32 r.b))

/-- The mantissas after the rung. -/
def Rung.mant {s : Shape} (r : Rung) (x : FVec F s .f32) : FVec F s .f32 :=
  select (r.holds x) (mulf x (broadcast s (Scalar.ofBits .f32 r.k))) x

/-- The exponents after the rung. -/
def Rung.expo {s : Shape} (r : Rung) (x : FVec F s .f32) (e : IVec s 32) : IVec s 32 :=
  select (r.holds x) (subi e (broadcast s r.d)) e

/-- The exponents and mantissas after a list of rungs. -/
def climb {s : Shape} (rs : List Rung) (q : IVec s 32 × FVec F s .f32) : IVec s 32 × FVec F s .f32 :=
  rs.foldl (fun q r => (r.expo q.2 q.1, r.mant q.2)) q

/-- The biased exponents and the mantissas of an array. -/
def split {s : Shape} (x : FVec F s .f32) : IVec s 32 × FVec F s .f32 :=
  climb rungs (broadcast s 127#32, x)

/-! ## One point -/

/-- The rows of stream `k` of a point's 32 mask rows are within them. -/
theorem slices_rows (k : Fin 4) : S32x32768.Slices ![8 * k.val, 0] S8x32768 := by
  revert k; decide

/-- Stream `k`'s factors: the probabilities plus `1e-7` where the mask is one, one elsewhere. -/
def factor (k : Fin 4) (o : Vec F S32x32768 .i8) (x : Vec F S8x32768 .f32) : FVec F S8x32768 .f32 :=
  select (cmpi .eq (extractStridedSlice S8x32768 ![8 * k.val, 0] o (slices_rows k)) (broadcast S8x32768 1#8))
    (addf x (broadcast S8x32768 (Scalar.ofBits .f32 0x33D6BF95#32))) (broadcast S8x32768 (Scalar.ofBits .f32 0x3F800000#32))

/-- The product of the four streams' factors. -/
def product (o : Vec F S32x32768 .i8) (x0 x1 x2 x3 : Vec F S8x32768 .f32) : FVec F S8x32768 .f32 :=
  mulf (mulf (factor 0 o x0) (factor 1 o x1)) (mulf (factor 2 o x2) (factor 3 o x3))

/-! ## The last point's fold -/

/-- Column slab `k` of sixteen is within the array. -/
theorem slices_slab (k : ℕ) (h : k < 16) : S8x32768.Slices ![0, 2048 * k] S8x2048 := by
  have : ∀ k : Fin 16, S8x32768.Slices ![0, 2048 * k.val] S8x2048 := by decide
  exact this ⟨k, h⟩

/-- Column slab `k` of an array. -/
def slab (k : ℕ) (h : k < 16) (x : FVec F S8x32768 .f32) : FVec F S8x2048 .f32 :=
  extractStridedSlice S8x2048 ![0, 2048 * k] x (slices_slab k h)

/-- The exponents and mantissas after folding slabs `0 … k`: each slab is multiplied into the mantissas, which are split
    again. -/
def folded (x : FVec F S8x32768 .f32) : (k : ℕ) → k < 16 → IVec S8x2048 32 × FVec F S8x2048 .f32
  | 0, h => (broadcast S8x2048 0#32, slab 0 h x)
  | k + 1, h =>
    (addi (folded x k (Nat.lt_of_succ_lt h)).1 (split (mulf (folded x k (Nat.lt_of_succ_lt h)).2 (slab (k + 1) h x))).1,
      (split (mulf (folded x k (Nat.lt_of_succ_lt h)).2 (slab (k + 1) h x))).2)

/-- The sum of the words of an array of eight rows. -/
def sumWords {n : ℕ} (e : IVec ⟨2, ![8, n]⟩ 32) (hc : Shape.ShapeCasts ⟨2, ![8, n]⟩ ⟨3, ![1, 8, n]⟩)
    (hr : Shape.Reduces ⟨3, ![1, 8, n]⟩ [1, 2] S1) : BitVec 32 :=
  extractAt ![0, 0, 0] (shapeCast S1x1x1 (multiReductionI .add [1, 2] S1 (shapeCast ⟨3, ![1, 8, n]⟩ e hc) 0#32 hr rfl)
    shapeCasts_S1_S1x1x1) inpos_S1x1x1_p0_0_0

/-- The sum of the floats of an array of eight rows. -/
def sumFloats {n : ℕ} (x : FVec F ⟨2, ![8, n]⟩ .f32) (hc : Shape.ShapeCasts ⟨2, ![8, n]⟩ ⟨3, ![1, 8, n]⟩)
    (hr : Shape.Reduces ⟨3, ![1, 8, n]⟩ [1, 2] S1) : F .f32 :=
  extractAt ![0, 0, 0] (shapeCast S1x1x1 (multiReduction .add [1, 2] S1 (shapeCast ⟨3, ![1, 8, n]⟩ x hc) 0x00000000#32 hr (.inl rfl) rfl)
    shapeCasts_S1_S1x1x1) inpos_S1x1x1_p0_0_0

/-- All the exponents, less the biases. -/
def exponents (e : IVec S8x32768 32) (x : FVec F S8x32768 .f32) : BitVec 32 :=
  Scalar.subi (Scalar.addi (sumWords e shapeCasts_S8x32768_S1x8x32768 reduces_S1x8x32768_S1)
    (sumWords (folded x 15 (by decide)).1 shapeCasts_S8x2048_S1x8x2048 reduces_S1x8x2048_S1)) 164380672#32

/-- What the last point stores, from the exponents and mantissas that the four points left: minus the sum of the exponents
    times `log 2` and the logarithms of the folded mantissas. -/
def result (e : IVec S8x32768 32) (x : FVec F S8x32768 .f32) : F .f32 :=
  Scalar.subf (Scalar.ofBits .f32 0x00000000#32)
    (Scalar.addf (Scalar.mulf (Named.named κ "ln2" 0x3F317218#32) (Scalar.sitofp .f32 (exponents e x)))
      (sumFloats (log (folded x 15 (by decide)).2) shapeCasts_S8x2048_S1x8x2048 reduces_S1x8x2048_S1))

end Cert.KernelIdeal.Steps

end
-- ==== Proof.Body.lean ====
/- What the accumulators and the output hold after each grid point, in the terms of Steps.lean. -/
module

public import proofs.«01_k».proof.Proof.Gen.KernelIdeal.Frame
public import proofs.«01_k».proof.Proof.Steps
public import Idealize.ShloMosaic.Lib.Pipeline.ValueKit
public import Idealize.ShloMosaic.Lib.Pipeline.ReadBack

@[expose] public section
set_option maxRecDepth 16384
noncomputable section
namespace Cert.KernelIdeal.Body
open Idealize.ShloMosaic Idealize.ShloMosaic.TcCoe Cert.KernelIdeal.Gen Cert.KernelIdeal.Steps
variable {F : FTy → Type} [FloatOps F] [Named F]
variable (m : (ℓ : Loc nD τ sig) → Buf (Elt F) ℓ)

/-- The 32 mask rows that the point's copy brings in. -/
def maskRows (c : Dev nD) (t : Fin cfg0.N) : Vec F S32x32768 .i8 :=
  View.read (Elt F) ((View.whole main_v1).slice (Rect.unit (s := S128x32768) (k0_off1 (grid0.coords t)) S32x32768.size (k0_off1_inb (grid0.coords t)))) (V m c main_v1)

/-- The point's product of factors. -/
def prod (c : Dev nD) (t : Fin cfg0.N) : FVec F S8x32768 .f32 :=
  product (maskRows m c t) (iblk m c 0 t) (iblk m c 1 t) (iblk m c 2 t) (iblk m c 3 t)

/-- A load of the whole mask buffer after the copy that fills it reads what was copied. -/
theorem readCov_copied (X : Vec F S32x32768 .i8) :
    (View.whole cc0_scratch2).readCov [⟨Rect.whole S32x32768, ReadAs.same.apply X⟩]
      (Rect.unit (s := S32x32768) ![0, 0] S32x32768.size inb_S32x32768_S32x32768_0_0).toLoadRect = X := by
  refine (View.readCov_fill (View.whole cc0_scratch2) (off := fun _ => 0) (fun a => by simp) X [] _ (fun _ => rfl)).trans ?_
  exact View.ld_unit_lit _ X (by decide)

/-- The product as the body forms it. -/
theorem product_eq (o : Vec F S32x32768 .i8) (x0 x1 x2 x3 : Vec F S8x32768 .f32) :
    k0_pay1 (k0_pay367 o x0) (k0_pay368 o x1) (k0_pay369 o x2) (k0_pay370 o) x3 k0_pay371 = product o x0 x1 x2 x3 := by
  sl_kernel_rfl

/-- What the first point keeps of a product as mantissas. -/
theorem pay_mant_A (x : FVec F S8x32768 .f32) :
    k0_pay9 (k0_pay19 x) (k0_pay21 x) = shapeCast S8x32768 (split x).2 shapeCasts_S8x32768_S8x32768 := by
  sl_kernel_rfl

/-- What the first point keeps of a product as exponents. -/
theorem pay_expo_A (x : FVec F S8x32768 .f32) :
    k0_pay8 (k0_pay19 x) (k0_pay20 x) (k0_pay21 x) = shapeCast S8x32768 (split x).1 shapeCasts_S8x32768_S8x32768 := by
  sl_kernel_rfl

/-- What a later point keeps, of a product and the mantissas, as mantissas. -/
theorem pay_mant_B (x y : FVec F S8x32768 .f32) :
    k0_pay43 (k0_pay33 x y) = shapeCast S8x32768 (split (mulf y x)).2 shapeCasts_S8x32768_S8x32768 := by
  sl_kernel_rfl

/-- What a later point keeps, of a product and the accumulators, as exponents. -/
theorem pay_expo_B (x y : FVec F S8x32768 .f32) (e : IVec S8x32768 32) :
    k0_pay42 (k0_pay31 x y) (k0_pay32 x y) (k0_pay33 x y) (k0_pay34 x y) e
      = shapeCast S8x32768 (addi e (split (mulf y x)).1) shapeCasts_S8x32768_S8x32768 := by
  sl_kernel_rfl

/-- After the first point the mantissas are those of its product. -/
theorem mant_A (c : Dev nD) (t : Fin cfg0.N) (h0 : t.val % 4 = 0) (h1 : ¬1 ≤ t.val) (h2 : ¬t.val % 4 = 3) :
    (outsAt0 m c t.val t.isLt).2.1 = (split (prod m c t)).2 := by
  rw [outsAt0_A m c t h0 h1 h2]; frame_out
  rw [readCov_copied, product_eq, pay_mant_A, shapeCast_self]; rfl

/-- After the first point the exponents are those of its product. -/
theorem expo_A (c : Dev nD) (t : Fin cfg0.N) (h0 : t.val % 4 = 0) (h1 : ¬1 ≤ t.val) (h2 : ¬t.val % 4 = 3) :
    (outsAt0 m c t.val t.isLt).2.2 = (split (prod m c t)).1 := by
  rw [outsAt0_A m c t h0 h1 h2]; frame_out
  rw [readCov_copied, product_eq, pay_expo_A, shapeCast_self]; rfl

/-- At a later point the mantissas are multiplied by the point's product and split again. -/
theorem mant_B (c : Dev nD) (t : Fin cfg0.N) (h0 : ¬t.val % 4 = 0) (h1 : 1 ≤ t.val) (h2 : ¬t.val % 4 = 3) :
    (outsAt0 m c t.val t.isLt).2.1
      = (split (mulf (outsAt0 m c (t.val - 1) (Nat.lt_of_le_of_lt (Nat.sub_le _ _) t.isLt)).2.1 (prod m c t))).2 := by
  rw [outsAt0_B m c t h0 h1 h2]; frame_out
  rw [readCov_copied, product_eq, pay_mant_B, shapeCast_self, read_unread_whole]; rfl

/-- At a later point the exponents of that split are added to the exponents. -/
theorem expo_B (c : Dev nD) (t : Fin cfg0.N) (h0 : ¬t.val % 4 = 0) (h1 : 1 ≤ t.val) (h2 : ¬t.val % 4 = 3) :
    (outsAt0 m c t.val t.isLt).2.2
      = addi (outsAt0 m c (t.val - 1) (Nat.lt_of_le_of_lt (Nat.sub_le _ _) t.isLt)).2.2
          (split (mulf (outsAt0 m c (t.val - 1) (Nat.lt_of_le_of_lt (Nat.sub_le _ _) t.isLt)).2.1 (prod m c t))).1 := by
  rw [outsAt0_B m c t h0 h1 h2]; frame_out
  rw [readCov_copied, product_eq, pay_expo_B, shapeCast_self, read_unread_whole, read_unread_whole]; rfl

set_option maxHeartbeats 4000000 in
/-- The last point stores, in its one cell, the fold of the accumulators that it leaves. -/
theorem out_C (c : Dev nD) (t : Fin cfg0.N) (h0 : ¬t.val % 4 = 0) (h1 : 1 ≤ t.val) (h2 : t.val % 4 = 3) :
    (outsAt0 m c t.val t.isLt).1
      = fun _ => result (addi (outsAt0 m c (t.val - 1) (Nat.lt_of_le_of_lt (Nat.sub_le _ _) t.isLt)).2.2
          (split (mulf (outsAt0 m c (t.val - 1) (Nat.lt_of_le_of_lt (Nat.sub_le _ _) t.isLt)).2.1 (prod m c t))).1)
          (split (mulf (outsAt0 m c (t.val - 1) (Nat.lt_of_le_of_lt (Nat.sub_le _ _) t.isLt)).2.1 (prod m c t))).2 := by
  rw [outsAt0_C m c t h0 h1 h2]
  unfold prod
  conv_rhs => rw [← readCov_copied (maskRows m c t)]
  unfold maskRows
  generalize outsAt0 m c (t.val - 1) _ = O
  generalize iblk m c 0 t = x0
  generalize iblk m c 1 t = x1
  generalize iblk m c 2 t = x2
  generalize iblk m c 3 t = x3
  frame_out
  simp only [product_eq, pay_mant_B, pay_expo_B, shapeCast_self, read_unread_whole]
  dsimp only [
    k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63,
    k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83,
    k0_pay84, k0_pay85, k0_pay86, k0_pay87, k0_pay88, k0_pay89, k0_pay90, k0_pay91, k0_pay92, k0_pay93,
    k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157,
    k0_pay158, k0_pay159, k0_pay160, k0_pay161, k0_pay162, k0_pay163, k0_pay164, k0_pay165, k0_pay166,
    k0_pay167, k0_pay168, k0_pay169, k0_pay170, k0_pay171, k0_pay172, k0_pay173, k0_pay174, k0_pay175,
    k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202,
    k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238,
    k0_pay239, k0_pay240, k0_pay241, k0_pay242, k0_pay243, k0_pay244, k0_pay245, k0_pay246, k0_pay247,
    k0_pay248, k0_pay249, k0_pay250, k0_pay251, k0_pay252, k0_pay253, k0_pay254, k0_pay255, k0_pay256,
    k0_pay257, k0_pay258, k0_pay259, k0_pay260, k0_pay261, k0_pay262, k0_pay263, k0_pay264, k0_pay265,
    k0_pay266, k0_pay267, k0_pay268, k0_pay269, k0_pay270, k0_pay271, k0_pay272, k0_pay273, k0_pay274,
    k0_pay275, k0_pay276, k0_pay277, k0_pay278, k0_pay279, k0_pay280, k0_pay281, k0_pay282, k0_pay283,
    k0_pay284, k0_pay285, k0_pay286, k0_pay287, k0_pay288, k0_pay289, k0_pay290, k0_pay291, k0_pay292,
    k0_pay293, k0_pay294, k0_pay295, k0_pay296, k0_pay297, k0_pay298, k0_pay299, k0_pay300, k0_pay301,
    k0_pay302, k0_pay303, k0_pay304, k0_pay305, k0_pay306, k0_pay307, k0_pay308, k0_pay309, k0_pay310,
    k0_pay311, k0_pay312, k0_pay313, k0_pay314, k0_pay315, k0_pay316, k0_pay317, k0_pay318, k0_pay319,
    k0_pay320, k0_pay321, k0_pay322, k0_pay323, k0_pay324, k0_pay325, k0_pay326, k0_pay327, k0_pay328,
    k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346,
    k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364,
    k0_pay365, k0_pay366]
  dsimp only [result, exponents, folded, split, climb, rungs, List.foldl, Rung.mant, Rung.expo, Rung.holds, slab,
    Nat.reduceMul, Nat.reduceAdd]
  funext i
  sl_kernel_rfl

end Cert.KernelIdeal.Body
end
-- ==== Proof.Split.lean ====
/- The split on extended reals: it keeps the logarithm, the mantissas stay positive, and no exponent wraps. -/
module

public import proofs.«01_k».proof.Proof.Steps
public import Idealize.ShloMosaic.Lib.ValueIdx
public import Idealize.ShloMosaic.Lib.WordArith

@[expose] public section
noncomputable section
namespace Cert.KernelIdeal.Steps
open Idealize.ShloMosaic Idealize.ShloMosaic.ValueIdx Cert.KernelIdeal.Gen

/-- The logarithm of a positive extended real is above `-∞`. -/
theorem log_ne_bot {x : EReal} (hx : 0 < x) : Ideal.log x ≠ ⊥ := by
  induction x with
  | bot => simp at hx
  | top => simp
  | coe r => rw [Ideal.log_coe, if_neg (not_le.mpr (by exact_mod_cast hx))]; exact EReal.coe_ne_bot _

/-- The logarithm of a product of positive extended reals is the sum of the logarithms. -/
theorem log_mul {x y : EReal} (hx : 0 < x) (hy : 0 < y) : Ideal.log (x * y) = Ideal.log x + Ideal.log y := by
  induction x with
  | bot => simp at hx
  | top => rw [EReal.top_mul_of_pos hy, Ideal.log_top, EReal.top_add_of_ne_bot (log_ne_bot hy)]
  | coe r =>
    induction y with
    | bot => simp at hy
    | top => rw [EReal.mul_top_of_pos hx, Ideal.log_top, EReal.add_top_of_ne_bot (log_ne_bot hx)]
    | coe s =>
      have hr : 0 < r := by exact_mod_cast hx
      have hs : 0 < s := by exact_mod_cast hy
      rw [← EReal.coe_mul, Ideal.log_coe, Ideal.log_coe, Ideal.log_coe, if_neg (not_le.mpr (mul_pos hr hs)),
        if_neg (not_le.mpr hr), if_neg (not_le.mpr hs), Real.log_mul hr.ne' hs.ne', EReal.coe_add]

/-- The logarithm of one is zero. -/
theorem log_one : Ideal.log (1 : EReal) = 0 := by
  rw [← EReal.coe_one, Ideal.log_coe, if_neg (by norm_num), Real.log_one, EReal.coe_zero]

/-- The logarithm of a power of two. -/
theorem log_two_pow (d : ℤ) : Ideal.log (((2 : ℝ) ^ d : ℝ) : EReal) = ((d * Real.log 2 : ℝ) : EReal) := by
  rw [Ideal.log_coe, if_neg (not_le.mpr (by positivity)), Real.log_zpow]

/-- A rung's scale is the power of two whose exponent it takes off. -/
def Rung.Exact (r : Rung) : Prop := Ideal.ofBits .f32 r.k = (((2 : ℝ) ^ r.d.toInt : ℝ) : EReal)

/-- All nine scales are such powers. -/
theorem rungs_exact : ∀ r ∈ rungs, r.Exact := by
  simp only [rungs, List.forall_mem_cons, List.not_mem_nil, false_imp_iff, implies_true, and_true, Rung.Exact]
  refine ⟨?_, ?_, ?_, ?_, ?_, ?_, ?_, ?_, ?_⟩ <;> simp [Ideal.ofBits, Ideal.ieee, -EReal.coe_mul, -EReal.coe_pow] <;> norm_num [-EReal.coe_pow]

/-- The most that a list of rungs can take off an exponent. -/
def down (rs : List Rung) : ℤ := (rs.map fun r => max r.d.toInt 0).sum

/-- The most that a list of rungs can put on an exponent. -/
def up (rs : List Rung) : ℤ := (rs.map fun r => max (-r.d.toInt) 0).sum

/-- `L` is the logarithm of `x · 2 ^ (e - b)`, with `x` positive. -/
structure Stands (L x : EReal) (e b : ℤ) : Prop where
  /-- the mantissa is positive -/
  pos : 0 < x
  /-- the logarithms agree -/
  log_eq : L = Ideal.log x + (((e - b) * Real.log 2 : ℝ) : EReal)

/-- One rung keeps what an exponent and a mantissa stand for, and moves the exponent by at most its amount. -/
theorem Rung.step {s : Shape} (r : Rung) (hr : r.Exact) (e : IVec s 32) (x : FVec Ideal s .f32) (i : s.Idx) (L : EReal) (b : ℤ)
    (h : Stands L (x i) (e i).toInt b) (hlo : max r.d.toInt 0 ≤ (e i).toInt) (hhi : (e i).toInt + max (-r.d.toInt) 0 ≤ 255) :
    Stands L (r.mant x i) (r.expo x e i).toInt b ∧ (e i).toInt - max r.d.toInt 0 ≤ (r.expo x e i).toInt
      ∧ (r.expo x e i).toInt ≤ (e i).toInt + max (-r.d.toInt) 0 := by
  have hm : r.mant x i = Scalar.select (r.holds x i) (x i * Ideal.ofBits .f32 r.k) (x i) := rfl
  have he : r.expo x e i = Scalar.select (r.holds x i) (e i - r.d) (e i) := rfl
  rw [hm, he]
  by_cases hc : r.holds x i = 1#1
  · rw [hc, select_one, select_one]
    have hk : (0 : EReal) < (((2 : ℝ) ^ r.d.toInt : ℝ) : EReal) := by
      have : (0 : ℝ) < (2 : ℝ) ^ r.d.toInt := by positivity
      exact_mod_cast this
    have hi : (e i - r.d).toInt = (e i).toInt - r.d.toInt :=
      WordArith.toInt_sub_of_bounds _ _ (by omega) (by omega)
    rw [hr, hi]
    refine ⟨⟨EReal.mul_pos h.pos hk, ?_⟩, by omega, by omega⟩
    rw [h.log_eq, log_mul h.pos hk, log_two_pow, add_assoc, ← EReal.coe_add]
    congr 2
    push_cast
    ring
  · rw [eq_zero_of_ne_one hc, select_zero, select_zero]
    exact ⟨h, by omega, by omega⟩

/-- A list of rungs keeps what an exponent and a mantissa stand for, where the exponent has the room. -/
theorem climb_spec {s : Shape} (i : s.Idx) (L : EReal) (b : ℤ) : ∀ (rs : List Rung) (q : IVec s 32 × FVec Ideal s .f32),
    (∀ r ∈ rs, r.Exact) → Stands L (q.2 i) (q.1 i).toInt b → down rs ≤ (q.1 i).toInt → (q.1 i).toInt + up rs ≤ 255 →
    Stands L ((climb rs q).2 i) ((climb rs q).1 i).toInt b ∧ 0 ≤ ((climb rs q).1 i).toInt ∧ ((climb rs q).1 i).toInt ≤ 255
  | [], q, _, h, hlo, hhi => ⟨h, by simpa [down, climb] using hlo, by simpa [up, climb] using hhi⟩
  | r :: rs, q, hr, h, hlo, hhi => by
    have hd : down (r :: rs) = max r.d.toInt 0 + down rs := by simp [down]
    have hu : up (r :: rs) = max (-r.d.toInt) 0 + up rs := by simp [up]
    have hd0 : 0 ≤ down rs := List.sum_nonneg (by simp)
    have hu0 : 0 ≤ up rs := List.sum_nonneg (by simp)
    obtain ⟨h', h1, h2⟩ := r.step (hr r (by simp)) q.1 q.2 i L b h (by omega) (by omega)
    exact climb_spec i L b rs (r.expo q.2 q.1, r.mant q.2) (fun r' h => hr r' (by simp [h])) h' (by simp only; omega) (by simp only; omega)

/-- The split of a positive element stands for its logarithm, with exponents biased by 127 and between 0 and 255. -/
theorem split_spec {s : Shape} (x : FVec Ideal s .f32) (i : s.Idx) (h : 0 < x i) :
    Stands (Ideal.log (x i)) ((split x).2 i) ((split x).1 i).toInt 127 ∧ 0 ≤ ((split x).1 i).toInt ∧ ((split x).1 i).toInt ≤ 255 := by
  have h0 : ((broadcast s 127#32 : IVec s 32) i).toInt = 127 := by rw [broadcast_apply]; rfl
  refine climb_spec i _ 127 rungs (broadcast s 127#32, x) rungs_exact ⟨h, ?_⟩ ?_ ?_
  · simp only [h0]; simp
  · simp only [h0]; decide
  · simp only [h0]; decide

/-- A mantissa multiplied by a positive element and split again stands for the sum of the logarithms. -/
theorem Stands.mul_split {s : Shape} {L : EReal} (x y : FVec Ideal s .f32) (i : s.Idx) {e b : ℤ} (h : Stands L (x i) e b) (hy : 0 < y i) :
    Stands (L + Ideal.log (y i)) ((split (mulf x y)).2 i) (e + ((split (mulf x y)).1 i).toInt) (b + 127)
      ∧ 0 ≤ ((split (mulf x y)).1 i).toInt ∧ ((split (mulf x y)).1 i).toInt ≤ 255 := by
  have hm : mulf x y i = x i * y i := rfl
  obtain ⟨h', h1, h2⟩ := split_spec (mulf x y) i (by rw [hm]; exact EReal.mul_pos h.pos hy)
  refine ⟨⟨h'.pos, ?_⟩, h1, h2⟩
  have h3 := h'.log_eq
  rw [hm, log_mul h.pos hy] at h3
  rw [h.log_eq, add_right_comm, h3, add_assoc, ← EReal.coe_add]
  congr 2
  push_cast
  ring

/-- Summed over a finite set of places. -/
theorem Stands.sum {ι : Type} [Fintype ι] {L x : ι → EReal} {e : ι → ℤ} {b : ℤ} (h : ∀ i, Stands (L i) (x i) (e i) b) :
    ∑ i, L i = ∑ i, Ideal.log (x i) + ((((∑ i, e i) - Fintype.card ι * b) * Real.log 2 : ℝ) : EReal) := by
  have hc : ∀ (s : Finset ι) (r : ι → ℝ), ∑ i ∈ s, ((r i : ℝ) : EReal) = ((∑ i ∈ s, r i : ℝ) : EReal) := by
    classical
    intro s r
    induction s using Finset.induction_on with
    | empty => simp
    | insert a s ha ih => rw [Finset.sum_insert ha, Finset.sum_insert ha, ih, EReal.coe_add]
  rw [Finset.sum_congr rfl fun i _ => (h i).log_eq, Finset.sum_add_distrib, hc, ← Finset.sum_mul, Finset.sum_sub_distrib,
    Finset.sum_const, Finset.card_univ, nsmul_eq_mul]
  push_cast
  rfl

end Cert.KernelIdeal.Steps
end
-- ==== Proof.Terms.lean ====
/- The factor of one element, and its logarithm's sum: what both programs are compared by. -/
module

public import Idealize.ShloMosaic.PureOps.Ideal.Laws
public import Idealize.ShloMosaic.Lib.ValueIdx

@[expose] public section
noncomputable section
namespace Cert.Terms
open Idealize.ShloMosaic

/-- The factor of one element: the probability plus `1e-7` where it is observed, one elsewhere. -/
def term {ι : Type} (p : ι → EReal) (b : ι → BitVec 1) (i : ι) : EReal :=
  Scalar.select (b i) (p i + Ideal.ofBits .f32 0x33D6BF95#32) 1

/-- The constant `1e-7` is positive. -/
theorem eps_pos : (0 : EReal) < Ideal.ofBits .f32 0x33D6BF95#32 := by
  have h : Ideal.ofBits .f32 0x33D6BF95#32 = (((14073749 : ℝ) * (2 : ℝ) ^ (-47 : ℤ) : ℝ) : EReal) := by
    simp [Ideal.ofBits, Ideal.ieee, -EReal.coe_mul, -EReal.coe_pow]
  rw [h]
  have : (0 : ℝ) < (14073749 : ℝ) * (2 : ℝ) ^ (-47 : ℤ) := by positivity
  exact_mod_cast this

/-- Where the probabilities are not negative the factors are positive. -/
theorem term_pos {ι : Type} (p : ι → EReal) (b : ι → BitVec 1) (i : ι) (h : 0 ≤ p i) : 0 < term p b i := by
  unfold term
  by_cases hb : b i = 1#1
  · rw [hb, ValueIdx.select_one]
    exact lt_of_lt_of_le eps_pos (le_add_of_nonneg_left h)
  · rw [ValueIdx.eq_zero_of_ne_one hb, ValueIdx.select_zero]
    exact zero_lt_one

end Cert.Terms
end
-- ==== Proof.Blocks.lean ====
/- What one grid point reads: the rows of the probabilities and of the mask, and the product of factors that they give. -/
module

public import proofs.«01_k».proof.Proof.Body
public import proofs.«01_k».proof.Proof.Split
public import proofs.«01_k».proof.Proof.Terms
public import Idealize.ShloMosaic.Lib.Pipeline.ValueKit
public import Idealize.ShloMosaic.Lib.Claim
public import Idealize.ShloMosaic.Lib.IdealHost

@[expose] public section
noncomputable section
namespace Cert.KernelIdeal.Blocks
open Idealize.ShloMosaic Idealize.ShloMosaic.TcCoe Cert.KernelIdeal.Gen Cert.KernelIdeal.Steps Cert.KernelIdeal.Body
  Cert.Terms
variable (m : (ℓ : Loc nD τ sig) → Buf (Elt Ideal) ℓ)

/-- There are four points. -/
theorem lt_four (t : Fin cfg0.N) : t.val < 4 := t.isLt

/-- The row that stream `s` of point `t` has at its row `r`. -/
def row (t : Fin cfg0.N) (s : Fin 4) (r : Fin 8) : Fin 128 := ⟨32 * t.val + 8 * s.val + r.val, by have := lt_four t; omega⟩

/-- The block that stream 0 reads at each point. -/
theorem index_0 : ∀ t : Fin cfg0.N, win0_0.index t = ![4 * t.val, 0] := by decide
/-- The block that stream 1 reads at each point. -/
theorem index_1 : ∀ t : Fin cfg0.N, win0_1.index t = ![4 * t.val + 1, 0] := by decide
/-- The block that stream 2 reads at each point. -/
theorem index_2 : ∀ t : Fin cfg0.N, win0_2.index t = ![4 * t.val + 2, 0] := by decide
/-- The block that stream 3 reads at each point. -/
theorem index_3 : ∀ t : Fin cfg0.N, win0_3.index t = ![4 * t.val + 3, 0] := by decide

/-- Stream 0's block at a point, by the rows of the probabilities. -/
theorem block_0 (c : Dev nD) (t : Fin cfg0.N) (r : Fin 8) (q : Fin 32768) :
    iblk m c 0 t (ix2 r q) = m ((c : Thread nD τ).loc main_arg0) (ix2 (row t 0 r) q) := by
  blk_ext [iblk, V_main_arg0, index_0 t, row]

/-- Stream 1's block at a point, by the rows of the probabilities. -/
theorem block_1 (c : Dev nD) (t : Fin cfg0.N) (r : Fin 8) (q : Fin 32768) :
    iblk m c 1 t (ix2 r q) = m ((c : Thread nD τ).loc main_arg0) (ix2 (row t 1 r) q) := by
  blk_ext [iblk, V_main_arg0, index_1 t, row]

/-- Stream 2's block at a point, by the rows of the probabilities. -/
theorem block_2 (c : Dev nD) (t : Fin cfg0.N) (r : Fin 8) (q : Fin 32768) :
    iblk m c 2 t (ix2 r q) = m ((c : Thread nD τ).loc main_arg0) (ix2 (row t 2 r) q) := by
  blk_ext [iblk, V_main_arg0, index_2 t, row]

/-- Stream 3's block at a point, by the rows of the probabilities. -/
theorem block_3 (c : Dev nD) (t : Fin cfg0.N) (r : Fin 8) (q : Fin 32768) :
    iblk m c 3 t (ix2 r q) = m ((c : Thread nD τ).loc main_arg0) (ix2 (row t 3 r) q) := by
  blk_ext [iblk, V_main_arg0, index_3 t, row]

/-- The row at which the point's mask rows begin. -/
theorem off_eq : ∀ t : Fin cfg0.N, k0_off1 (grid0.coords t) = ![32 * t.val, 0] := by decide

/-- The point's mask rows, by the rows of the widened mask. -/
theorem mask_at (c : Dev nD) (t : Fin cfg0.N) (r : Fin 32) (q : Fin 32768) :
    maskRows m c t (ix2 r q) = V m c main_v1 (ix2 ⟨32 * t.val + r.val, by have := lt_four t; omega⟩ q) := by
  unfold maskRows
  refine congrArg (V m c main_v1) ?_
  funext a
  refine Fin.ext ?_
  fin_cases a
  · show k0_off1 (grid0.coords t) 0 + 1 * r.val = 32 * t.val + r.val
    rw [off_eq]; simp
  · show k0_off1 (grid0.coords t) 1 + 1 * q.val = q.val
    rw [off_eq]; simp

/-- The widened mask, by the mask's bits. -/
theorem word_at (c : Dev nD) (i : S128x32768.Idx) : V m c main_v1 i = (m ((c : Thread nD τ).loc main_arg1) i).setWidth 8 := by
  have h : V m c main_v1 = StableHlo.after hostOps0 (fun b => m (c, b)) (Proc.devRef .tc main_v1) := by
    simp only [V, V0, List.flatten_cons, List.flatten_nil, List.append_nil]
  rw [h]
  unfold hostOps0
  entry_read
  rfl

/-- The device's probabilities. -/
def probs (c : Dev nD) : S128x32768.Idx → EReal := m ((c : Thread nD τ).loc main_arg0)

/-- The device's observation mask. -/
def observed (c : Dev nD) : S128x32768.Idx → BitVec 1 := m ((c : Thread nD τ).loc main_arg1)

/-- A bit widened to eight is one where the bit is. -/
theorem widened (b : BitVec 1) : IntOp.cmpi .eq (b.setWidth 8) 1#8 = b := by
  revert b; decide

/-- The factors of stream `k`, from the mask words and the probabilities that the point reads. -/
theorem factor_at (c : Dev nD) (t : Fin cfg0.N) (k : Fin 4) (x : Vec Ideal S8x32768 .f32) (r : Fin 8) (q : Fin 32768)
    (hx : x (ix2 r q) = m ((c : Thread nD τ).loc main_arg0) (ix2 (row t k r) q)) :
    factor k (maskRows m c t) x (ix2 r q) = term (probs m c) (observed m c) (ix2 (row t k r) q) := by
  have ho : extractStridedSlice S8x32768 ![8 * k.val, 0] (maskRows m c t) (slices_rows k) (ix2 r q)
      = (m ((c : Thread nD τ).loc main_arg1) (ix2 (row t k r) q)).setWidth 8 := by
    rw [← word_at, ← show (ix2 (⟨32 * t.val + (8 * k.val + r.val), by have := lt_four t; omega⟩ : Fin 128) q : S128x32768.Idx)
      = ix2 (row t k r) q from congrArg (fun a => ix2 a q) (Fin.ext (by simp only [row]; omega)),
      ← mask_at m c t ⟨8 * k.val + r.val, by omega⟩ q]
    refine congrArg (maskRows m c t) ?_
    funext a
    refine Fin.ext ?_
    fin_cases a
    · rfl
    · exact Nat.zero_add _
  show Scalar.select (IntOp.cmpi .eq (extractStridedSlice S8x32768 ![8 * k.val, 0] (maskRows m c t) (slices_rows k) (ix2 r q)) 1#8)
    (x (ix2 r q) + Ideal.ofBits .f32 0x33D6BF95#32) (Ideal.ofBits .f32 0x3F800000#32) = _
  rw [ho, hx, widened, Ideal.ofBits_one_f32]
  rfl

/-- The product of a point at a place is the product of the four streams' factors there. -/
theorem prod_at (c : Dev nD) (t : Fin cfg0.N) (r : Fin 8) (q : Fin 32768) :
    prod m c t (ix2 r q) = (term (probs m c) (observed m c) (ix2 (row t 0 r) q) * term (probs m c) (observed m c) (ix2 (row t 1 r) q))
      * (term (probs m c) (observed m c) (ix2 (row t 2 r) q) * term (probs m c) (observed m c) (ix2 (row t 3 r) q)) := by
  rw [← factor_at m c t 0 _ r q (block_0 m c t r q), ← factor_at m c t 1 _ r q (block_1 m c t r q),
    ← factor_at m c t 2 _ r q (block_2 m c t r q), ← factor_at m c t 3 _ r q (block_3 m c t r q)]
  rfl

/-- Where the probabilities are not negative, the product of a point is positive and its logarithm is the sum of the four
    streams' logarithms. -/
theorem log_prod (c : Dev nD) (h : ∀ i, 0 ≤ probs m c i) (t : Fin cfg0.N) (r : Fin 8) (q : Fin 32768) :
    0 < prod m c t (ix2 r q)
      ∧ Ideal.log (prod m c t (ix2 r q)) = ∑ k : Fin 4, Ideal.log (term (probs m c) (observed m c) (ix2 (row t k r) q)) := by
  have hp := fun k : Fin 4 => term_pos (probs m c) (observed m c) (ix2 (row t k r) q) (h _)
  have h01 := EReal.mul_pos (hp 0) (hp 1)
  have h23 := EReal.mul_pos (hp 2) (hp 3)
  rw [prod_at]
  refine ⟨EReal.mul_pos h01 h23, ?_⟩
  rw [log_mul h01 h23, log_mul (hp 0) (hp 1), log_mul (hp 2) (hp 3), Fin.sum_univ_four]
  simp only [add_assoc]

/-- The rows of all streams of all points are all the rows. -/
theorem sum_rows (f : S128x32768.Idx → EReal) :
    ∑ i : S8x32768.Idx, ∑ t : Fin 4, ∑ k : Fin 4, f (ix2 (row t k (i 0)) (i 1)) = ∑ i, f i := by
  rw [ValueIdx.sum_idx2, ValueIdx.sum_idx2]
  show ∑ r : Fin 8, ∑ q : Fin 32768, ∑ t : Fin 4, ∑ k : Fin 4, f (ix2 (row t k r) q) = ∑ a : Fin 128, ∑ q : Fin 32768, f (ix2 a q)
  rw [Finset.sum_comm, Finset.sum_comm (s := (Finset.univ : Finset (Fin 128)))]
  refine Finset.sum_congr rfl fun q _ => ?_
  rw [← (((finProdFinEquiv (m := 4) (n := 4)).prodCongr (Equiv.refl (Fin 8))).trans (finProdFinEquiv (m := 16) (n := 8))).sum_comp
    (fun a : Fin 128 => f (ix2 a q)), Fintype.sum_prod_type_right]
  refine Finset.sum_congr rfl fun r _ => ?_
  rw [Fintype.sum_prod_type]
  refine Finset.sum_congr rfl fun t _ => Finset.sum_congr rfl fun k _ => ?_
  refine congrArg (fun a => f (ix2 a q)) (Fin.ext ?_)
  simp [row, finProdFinEquiv]
  omega

end Cert.KernelIdeal.Blocks
end
-- ==== Proof.Fold.lean ====
/- The last point's fold on extended reals: it stores minus the sum of the logarithms that the accumulators stand for. -/
module

public import proofs.«01_k».proof.Proof.Split
public import Idealize.ShloMosaic.Lib.WordSum
public import Idealize.ShloMosaic.PureOps.Ideal.Laws

@[expose] public section
noncomputable section
namespace Cert.KernelIdeal.Steps
open Idealize.ShloMosaic Idealize.ShloMosaic.ValueIdx Cert.KernelIdeal.Gen

/-- The sum of the floats of an array of eight rows is the sum over its indices. -/
theorem sumFloats_eq {n : ℕ} (x : FVec Ideal ⟨2, ![8, n]⟩ .f32) (hc : Shape.ShapeCasts ⟨2, ![8, n]⟩ ⟨3, ![1, 8, n]⟩)
    (hr : Shape.Reduces ⟨3, ![1, 8, n]⟩ [1, 2] S1) : sumFloats x hc hr = ∑ i, x i :=
  (Ideal.multiReduction_add_total _ 0x00000000#32 hr (by decide : ∀ b : Fin S1.rank, S1.size b = 1) (.inl rfl) rfl _).trans ((Shape.reshapeEquiv hc).sum_comp x)

/-- The sum of the words of an array of eight rows is the sum over its indices, where it fits. -/
theorem sumWords_eq {n : ℕ} (e : IVec ⟨2, ![8, n]⟩ 32) (hc : Shape.ShapeCasts ⟨2, ![8, n]⟩ ⟨3, ![1, 8, n]⟩)
    (hr : Shape.Reduces ⟨3, ![1, 8, n]⟩ [1, 2] S1) (B : ℕ) (h : ∀ i, 0 ≤ (e i).toInt ∧ (e i).toInt ≤ B) (hB : 8 * n * B < 2 ^ 31) :
    (sumWords e hc hr).toInt = ∑ i, (e i).toInt ∧ 0 ≤ ∑ i, (e i).toInt ∧ ∑ i, (e i).toInt ≤ 8 * n * B := by
  have hn : ∀ i, ((e i).toNat : ℤ) = (e i).toInt := fun i => by
    have h0 := (h i).1
    have h1 := BitVec.toInt_eq_toNat_cond (e i)
    have h2 := (e i).isLt
    split at h1 <;> omega
  have hcard : Fintype.card (⟨2, ![8, n]⟩ : Shape).Idx = 8 * n := by
    rw [Fintype.card_congr idxEquiv2, Fintype.card_prod, Fintype.card_fin, Fintype.card_fin]
  have hle : ∑ i, (e i).toNat ≤ 8 * n * B := by
    refine (Finset.sum_le_card_nsmul _ _ B fun i _ => ?_).trans (by rw [Finset.card_univ, hcard, smul_eq_mul])
    have := hn i; have := (h i).2; omega
  have hcast : ((∑ i, (e i).toNat : ℕ) : ℤ) = ∑ i, (e i).toInt := by
    rw [Nat.cast_sum]; exact Finset.sum_congr rfl fun i _ => hn i
  have hone : ∀ b : Fin S1.rank, S1.size b = 1 := by decide
  have hall : ∀ j : S1.Idx, (Finset.univ.filter fun i => hr.drop i = j) = Finset.univ := fun j =>
    Finset.filter_true_of_mem fun i _ => funext fun b => Fin.ext (by
      have := (hr.drop i b).isLt; have := (j b).isLt; have := hone b; omega)
  have hsum : ∀ j : S1.Idx, ∑ i ∈ Finset.univ.filter (fun i => hr.drop i = j), (shapeCast ⟨3, ![1, 8, n]⟩ e hc i).toNat = ∑ i, (e i).toNat :=
    fun j => by rw [hall]; exact (Shape.reshapeEquiv hc).sum_comp fun i => (e i).toNat
  have hw : (sumWords e hc hr).toNat = ∑ i, (e i).toNat :=
    (WordSum.toNat_multiReductionI_add _ hr rfl _ (by rw [hsum]; omega)).trans (hsum _)
  refine ⟨?_, by rw [← hcast]; positivity, by rw [← hcast]; exact_mod_cast hle⟩
  rw [← hcast, ← hw, BitVec.toInt_eq_toNat_cond, if_pos (by omega)]

/-- One more slab in the fold's exponents. -/
theorem folded_expo (x : FVec Ideal S8x32768 .f32) (k : ℕ) (h : k + 1 < 16) (j : S8x2048.Idx) :
    (folded x (k + 1) h).1 j = (folded x k (Nat.lt_of_succ_lt h)).1 j
      + (split (mulf (folded x k (Nat.lt_of_succ_lt h)).2 (slab (k + 1) h x))).1 j := by
  rw [folded]; rfl

/-- One more slab in the fold's mantissas. -/
theorem folded_mant (x : FVec Ideal S8x32768 .f32) (k : ℕ) (h : k + 1 < 16) :
    (folded x (k + 1) h).2 = (split (mulf (folded x k (Nat.lt_of_succ_lt h)).2 (slab (k + 1) h x))).2 := by
  rw [folded]

/-- The fold of slabs `0 … k` stands, at each place, for the sum of those slabs' logarithms. -/
theorem folded_spec (x : FVec Ideal S8x32768 .f32) (hx : ∀ i, 0 < x i) (j : S8x2048.Idx) (k : ℕ) (h : k < 16) :
    Stands (∑ k' : Fin (k + 1), Ideal.log (slab k'.val (by omega) x j)) ((folded x k h).2 j) ((folded x k h).1 j).toInt (127 * k)
      ∧ 0 ≤ ((folded x k h).1 j).toInt ∧ ((folded x k h).1 j).toInt ≤ 255 * k := by
  induction k with
  | zero =>
    have h0 : ((folded x 0 h).1 j).toInt = 0 := rfl
    have h1 : (folded x 0 h).2 = slab 0 h x := rfl
    rw [h0, h1]
    refine ⟨⟨hx _, ?_⟩, le_refl _, by simp⟩
    simp
  | succ k ih =>
    obtain ⟨h1, h2, h3⟩ := ih (Nat.lt_of_succ_lt h)
    obtain ⟨h4, h5, h6⟩ := h1.mul_split (folded x k (Nat.lt_of_succ_lt h)).2 (slab (k + 1) h x) j (hx _)
    rw [Fin.sum_univ_castSucc, folded_expo, folded_mant, WordArith.toInt_add_of_bounds _ _ (by omega) (by omega),
      show (127 * ((k + 1 : ℕ) : ℤ)) = 127 * k + 127 by push_cast; ring]
    exact ⟨h4, by omega, by push_cast; omega⟩

/-- The sum over the slabs' places of the sixteen slabs is the sum over the array. -/
theorem sum_slabs (x : FVec Ideal S8x32768 .f32) (f : EReal → EReal) :
    ∑ j, ∑ k : Fin 16, f (slab k.val k.isLt x j) = ∑ i, f (x i) := by
  rw [sum_idx2, sum_idx2]
  refine Finset.sum_congr rfl fun a _ => ?_
  rw [Finset.sum_comm, ← (finProdFinEquiv (m := 16) (n := 2048)).sum_comp, Fintype.sum_prod_type]
  refine Finset.sum_congr rfl fun k _ => Finset.sum_congr rfl fun b _ => ?_
  refine congrArg f (congrArg x ?_)
  funext d
  refine Fin.ext ?_
  fin_cases d
  · simp [ix2]
  · simp [ix2, finProdFinEquiv]; omega

/-- The named constant is the logarithm of two. -/
theorem named_ln2 : (Named.named κ "ln2" 0x3F317218#32 : Ideal .f32) = ((Real.log 2 : ℝ) : EReal) := by
  rfl

/-- The stored scalar is minus the sum of what the accumulators stand for. -/
theorem result_eq (e : IVec S8x32768 32) (x : FVec Ideal S8x32768 .f32) (L : S8x32768.Idx → EReal)
    (h : ∀ i, Stands (L i) (x i) (e i).toInt 508) (he : ∀ i, 0 ≤ (e i).toInt ∧ (e i).toInt ≤ (1020 : ℕ)) :
    result e x = -∑ i, L i := by
  have hf := fun j => folded_spec x (fun i => (h i).pos) j 15 (by decide)
  have hs := Stands.sum fun j => (hf j).1
  rw [sum_slabs] at hs
  have hx := Stands.sum h
  have c1 : Fintype.card S8x32768.Idx = 262144 := by
    rw [Fintype.card_congr idxEquiv2, Fintype.card_prod, Fintype.card_fin, Fintype.card_fin]
  have c2 : Fintype.card S8x2048.Idx = 16384 := by
    rw [Fintype.card_congr idxEquiv2, Fintype.card_prod, Fintype.card_fin, Fintype.card_fin]
  unfold result exponents
  generalize folded x 15 _ = q at hf hs ⊢
  obtain ⟨e1, e2, e3⟩ := sumWords_eq e shapeCasts_S8x32768_S1x8x32768 reduces_S1x8x32768_S1 1020 he (by norm_num)
  obtain ⟨f1, f2, f3⟩ := sumWords_eq q.1 shapeCasts_S8x2048_S1x8x2048 reduces_S1x8x2048_S1 3825
    (fun j => ⟨(hf j).2.1, (hf j).2.2⟩) (by norm_num)
  generalize sumWords e _ _ = E at e1 ⊢
  generalize sumWords q.1 _ _ = Q at f1 ⊢
  rw [← e1] at e2 e3
  rw [← f1] at f2 f3
  change E.toInt = ∑ i : S8x32768.Idx, (e i).toInt at e1
  change Q.toInt = ∑ j : S8x2048.Idx, (q.1 j).toInt at f1
  have hc : (164380672#32).toInt = 164380672 := by decide
  have ha : (Scalar.addi E Q).toInt = E.toInt + Q.toInt := WordArith.toInt_add_of_bounds _ _ (by omega) (by omega)
  have hN : (Scalar.subi (Scalar.addi E Q) 164380672#32).toInt = E.toInt + Q.toInt - 164380672 := by
    rw [← ha, ← hc]
    exact WordArith.toInt_sub_of_bounds _ _ (by rw [ha, hc]; omega) (by rw [ha, hc]; omega)
  rw [sumFloats_eq, named_ln2]
  change Ideal.ofBits .f32 0x00000000#32 - (((Real.log 2 : ℝ) : EReal)
    * (((Scalar.subi (Scalar.addi E Q) 164380672#32).toInt : ℝ) : EReal) + ∑ j : S8x2048.Idx, Ideal.log (q.2 j)) = _
  rw [Ideal.ofBits_zero_f32, zero_sub, hx, hs, hN, ← e1, ← f1, c1, c2, add_assoc, ← EReal.coe_add, ← EReal.coe_mul, add_comm]
  refine congrArg (fun r : ℝ => -(_ + ((r : ℝ) : EReal))) ?_
  push_cast
  ring

end Cert.KernelIdeal.Steps
end
-- ==== Proof.Accum.lean ====
/- The four grid points together: what the last one stores is minus the sum of the logarithms of all factors. -/
module

public import proofs.«01_k».proof.Proof.Blocks
public import proofs.«01_k».proof.Proof.Fold

@[expose] public section
noncomputable section
namespace Cert.KernelIdeal.Accum
open Idealize.ShloMosaic Idealize.ShloMosaic.TcCoe Cert.KernelIdeal.Gen Cert.KernelIdeal.Steps Cert.KernelIdeal.Body
  Cert.KernelIdeal.Blocks Cert.Terms

/-- The exponents and mantissas after the products `0 … n`. -/
def acc {F : FTy → Type} [FloatOps F] [Named F] (P : ℕ → FVec F S8x32768 .f32) : ℕ → IVec S8x32768 32 × FVec F S8x32768 .f32
  | 0 => split (P 0)
  | n + 1 => (addi (acc P n).1 (split (mulf (acc P n).2 (P (n + 1)))).1, (split (mulf (acc P n).2 (P (n + 1)))).2)

/-- One more product in the exponents. -/
theorem acc_expo_all (P : ℕ → FVec Ideal S8x32768 .f32) (n : ℕ) :
    (acc P (n + 1)).1 = addi (acc P n).1 (split (mulf (acc P n).2 (P (n + 1)))).1 := by
  rw [acc]

/-- One more product in the exponents, at one place. -/
theorem acc_expo (P : ℕ → FVec Ideal S8x32768 .f32) (n : ℕ) (i : S8x32768.Idx) :
    (acc P (n + 1)).1 i = (acc P n).1 i + (split (mulf (acc P n).2 (P (n + 1)))).1 i := by
  rw [acc]; rfl

/-- One more product in the mantissas. -/
theorem acc_mant (P : ℕ → FVec Ideal S8x32768 .f32) (n : ℕ) :
    (acc P (n + 1)).2 = (split (mulf (acc P n).2 (P (n + 1)))).2 := by
  rw [acc]

/-- The accumulators stand, at each place, for the sum of the products' logarithms. -/
theorem acc_spec (P : ℕ → FVec Ideal S8x32768 .f32) (i : S8x32768.Idx) (h : ∀ n, 0 < P n i) (n : ℕ) (hn : n < 4) :
    Stands (∑ k ∈ Finset.range (n + 1), Ideal.log (P k i)) ((acc P n).2 i) ((acc P n).1 i).toInt (127 * (n + 1))
      ∧ 0 ≤ ((acc P n).1 i).toInt ∧ ((acc P n).1 i).toInt ≤ 255 * (n + 1) := by
  induction n with
  | zero =>
    obtain ⟨h1, h2, h3⟩ := split_spec (P 0) i (h 0)
    rw [Finset.sum_range_one]
    exact ⟨h1, h2, h3⟩
  | succ n ih =>
    obtain ⟨h1, h2, h3⟩ := ih (Nat.lt_of_succ_lt hn)
    obtain ⟨h4, h5, h6⟩ := h1.mul_split (acc P n).2 (P (n + 1)) i (h _)
    rw [Finset.sum_range_succ, acc_expo, acc_mant, WordArith.toInt_add_of_bounds _ _ (by omega) (by omega),
      show (127 * (((n + 1 : ℕ) : ℤ) + 1)) = 127 * (n + 1) + 127 by push_cast; ring]
    exact ⟨h4, by omega, by push_cast; omega⟩

variable (m : (ℓ : Loc nD τ sig) → Buf (Elt Ideal) ℓ)

/-- The product of point `n`. -/
def point (c : Dev nD) (n : ℕ) : FVec Ideal S8x32768 .f32 := prod m c ⟨n % 4, Nat.mod_lt n (by decide)⟩

theorem point_eq (c : Dev nD) (n : ℕ) (h : n < cfg0.N) : prod m c ⟨n, h⟩ = point m c n := by
  have hn : (⟨n, h⟩ : Fin cfg0.N) = ⟨n % 4, Nat.mod_lt n (by decide)⟩ := Fin.ext (Nat.mod_eq_of_lt h).symm
  rw [point, hn]

/-- The point before a point. -/
theorem before (c : Dev nD) (n : ℕ) (h : n + 1 < cfg0.N) (h' : n + 1 - 1 < cfg0.N) :
    outsAt0 m c (n + 1 - 1) h' = outsAt0 m c n (Nat.lt_of_succ_lt h) := by
  congr 1

/-- The accumulators after each of the first three points. -/
theorem acc_eq (c : Dev nD) (n : ℕ) (hn : n < 3) (h : n < cfg0.N) :
    (outsAt0 m c n h).2.1 = (acc (point m c) n).2 ∧ (outsAt0 m c n h).2.2 = (acc (point m c) n).1 := by
  induction n with
  | zero =>
    rw [acc, ← point_eq m c 0 h]
    exact ⟨mant_A m c ⟨0, h⟩ (Nat.zero_mod 4) (Nat.not_succ_le_zero 0) (fun e => nomatch e),
      expo_A m c ⟨0, h⟩ (Nat.zero_mod 4) (Nat.not_succ_le_zero 0) (fun e => nomatch e)⟩
  | succ n ih =>
    have h0 : ¬(n + 1) % 4 = 0 := by omega
    have h2 : ¬(n + 1) % 4 = 3 := by omega
    have hm := mant_B m c ⟨n + 1, h⟩ h0 (Nat.succ_le_succ (Nat.zero_le n)) h2
    have he := expo_B m c ⟨n + 1, h⟩ h0 (Nat.succ_le_succ (Nat.zero_le n)) h2
    obtain ⟨i1, i2⟩ := ih (by omega) (Nat.lt_of_succ_lt h)
    dsimp only at hm he
    rw [before m c n h, point_eq, i1] at hm
    rw [before m c n h, point_eq, i1, i2] at he
    rw [acc_mant, acc_expo_all]
    exact ⟨hm, he⟩

/-- What the last point stores. -/
theorem out_eq (c : Dev nD) (h : 3 < cfg0.N) :
    (outsAt0 m c 3 h).1 = fun _ => result (acc (point m c) 3).1 (acc (point m c) 3).2 := by
  have ho := out_C m c ⟨2 + 1, h⟩ (fun e => nomatch e) (Nat.succ_le_succ (Nat.zero_le 2)) rfl
  obtain ⟨i1, i2⟩ := acc_eq m c 2 (by decide) (Nat.lt_of_succ_lt h)
  dsimp only at ho
  rw [before m c 2 h, point_eq, i1, i2] at ho
  rw [show acc (point m c) 3 = acc (point m c) (2 + 1) from rfl, acc_mant, acc_expo_all]
  exact ho

/-- Where the probabilities are not negative, the last point stores minus the sum of the logarithms of all factors. -/
theorem out_value (c : Dev nD) (hc : ∀ i, 0 ≤ probs m c i) (h : 3 < cfg0.N) :
    (outsAt0 m c 3 h).1 = fun _ => -∑ i, Ideal.log (term (probs m c) (observed m c) i) := by
  have hP : ∀ i n, 0 < point m c n i := fun i n => by
    have := (log_prod m c hc ⟨n % 4, Nat.mod_lt n (by decide)⟩ (i 0) (i 1)).1
    rw [← eq_ix2 i] at this
    exact this
  have hL : ∀ i n, n < 4 → Ideal.log (point m c n i)
      = ∑ k : Fin 4, Ideal.log (term (probs m c) (observed m c) (ix2 (row ⟨n % 4, Nat.mod_lt n (by decide)⟩ k (i 0)) (i 1))) := fun i n _ => by
    have := (log_prod m c hc ⟨n % 4, Nat.mod_lt n (by decide)⟩ (i 0) (i 1)).2
    rw [← eq_ix2 i] at this
    exact this
  rw [out_eq]
  generalize point m c = P at hP hL ⊢
  have hs := fun i => acc_spec P i (hP i) 3 (by decide)
  generalize acc P 3 = q at hs ⊢
  funext _
  rw [result_eq q.1 q.2 (fun i => ∑ k ∈ Finset.range (3 + 1), Ideal.log (P k i)) (fun i => by simpa using (hs i).1)
    (fun i => by simpa using (hs i).2), ← sum_rows]
  refine congrArg (fun a : EReal => -a) (Finset.sum_congr rfl fun i _ => ?_)
  rw [Finset.sum_range]
  refine Finset.sum_congr rfl fun t _ => ?_
  rw [hL i t.val t.isLt]
  refine Finset.sum_congr rfl fun k _ => ?_
  have ht : (⟨t.val % 4, Nat.mod_lt t.val (by decide)⟩ : Fin cfg0.N) = t := Fin.ext (Nat.mod_eq_of_lt t.isLt)
  rw [ht]

end Cert.KernelIdeal.Accum
end
-- ==== Proof.Run.lean ====
/- The kernel's result: what its last point stores, divided by the number of rows. -/
module

public import proofs.«01_k».proof.Proof.Accum
public import Idealize.ShloMosaic.Lib.Claim

@[expose] public section
noncomputable section
namespace Cert.KernelIdeal.Run
open Idealize.ShloMosaic Idealize.SL.Sem Idealize.ShloMosaic.TcCoe Cert.KernelIdeal.Gen Cert.KernelIdeal.Accum
  Cert.KernelIdeal.Blocks Cert.Terms

variable (m : (ℓ : Loc nD τ sig) → Buf (Elt Ideal) ℓ)

/-- The kernel's output array holds what the last point stores. -/
theorem array_eq (c : Dev nD) (hc : ∀ i, 0 ≤ probs m c i) :
    (dats m 0 c).arrAt 4 cfg0.N = fun _ => -∑ i, Ideal.log (term (probs m c) (observed m c) i) := by
  refine (dats m 0 c).arrAt_eq_of_after_last 4 t0_3 (by decide +kernel) _ fun j => ?_
  blk_simp
  rw [after0_4]
  exact congrFun (out_value m c hc t0_3.isLt) _

/-- What the lines after the grid leave in the result. -/
theorem result_eq (c : Dev nD) (x : EReal) (hx : (dats m 0 c).arrAt 4 cfg0.N = fun _ => x) :
    Pipeline.afterTail₀ cfgs (dats m) 0 (V0 m) [hostOps1] c main_v4
      = fun _ => Ideal.div x (Ideal.ofBits .f32 0x43000000#32) := by
  have hv : Pipeline.withArrays spec0 c (V0 m c) (fun w => (dats m 0 c).arrAt w cfg0.N) (Proc.devRef .tc main_v2)
      = (dats m 0 c).arrAt 4 cfg0.N := by
    refine Pipeline.withArrays_arr_shared spec0 c (V0 m c) _ (fun w w' hne e => ?_) 4
    exact ((dats m 0 c).arrAt_in w (sharedIn0 w w' hne e) _).trans (A_eq m c w)
  unfold Pipeline.afterTail₀
  rw [show ([hostOps1] : List (List (HloOp τ sig (Elt Ideal)))).flatten = hostOps1 from List.append_nil _]
  unfold hostOps1
  after_results
  rw [show Pipeline.withArrays (cfgs 0).spec c (V0 m c) (fun w => (dats m 0 c).arrAt w (cfgs 0).N) (Proc.devRef .tc main_v2)
    = fun _ => x from hv.trans hx]
  rfl

/-- The kernel's run: where the probabilities are not negative its result is minus the sum of the logarithms of all
    factors, divided by the number of rows, and its arguments are unchanged. -/
theorem run (g : Dev nD → PrngReg) (hc : ∀ c i, 0 ≤ probs m c i) :
    θ_run (defs (F := Ideal)) (onTc (τ := τ) (main (F := Ideal))) ⟨m, fun _ => 0, g⟩ (fun r => ∀ c : Dev nD,
      r.2.mem ((c.tc : Thread nD τ).loc main_v4) = (fun _ => Ideal.div
        (-∑ i, Ideal.log (term (probs m c) (observed m c) i)) (Ideal.ofBits .f32 0x43000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (θ_run_and (run_main m g) (unchanged m g)) fun _ h c =>
    ⟨((h.1 c).2 main_v4 (Pipeline.mem_restRefs_of main_v4 (by decide) (by decide))).trans
      (result_eq m c _ (array_eq m c (hc c))), h.2 c⟩

end Cert.KernelIdeal.Run
end
-- ==== Proof.Reference.lean ====
/- The reference's result: the same value, with the logarithms taken one by one and the unobserved places left out. -/
module

public import proofs.«01_k».proof.Proof.Gen.ReferenceIdeal.Run
public import proofs.«01_k».proof.Proof.Terms
public import proofs.«01_k».proof.Proof.Split
public import Idealize.ShloMosaic.Lib.IdealHost

@[expose] public section
noncomputable section
namespace Cert.ReferenceIdeal.Result
open Idealize.ShloMosaic Cert.ReferenceIdeal Cert.ReferenceIdeal.Gen Cert.Terms Cert.KernelIdeal.Steps

/-- A sum of values above minus infinity is above minus infinity, and its negation is the sum of the negations. -/
theorem neg_sum {ι : Type} (s : Finset ι) (f : ι → EReal) (h : ∀ i, f i ≠ ⊥) :
    ∑ i ∈ s, f i ≠ ⊥ ∧ -∑ i ∈ s, f i = ∑ i ∈ s, -f i := by
  classical
  induction s using Finset.induction_on with
  | empty => simp
  | insert a s ha ih =>
    rw [Finset.sum_insert ha, Finset.sum_insert ha]
    refine ⟨?_, ?_⟩
    · rw [Ne, EReal.add_eq_bot_iff, not_or]
      exact ⟨h a, ih.1⟩
    · rw [EReal.neg_add (Or.inl (h a)) (Or.inr ih.1), sub_eq_add_neg, ih.2]

/-- The reference's summand is minus the logarithm of the factor. -/
theorem summand_eq {ι : Type} (p : ι → EReal) (b : ι → BitVec 1) (i : ι) :
    Scalar.select (b i) (-Ideal.log (p i + Ideal.ofBits .f32 0x33D6BF95#32)) (Ideal.ofBits .f32 0x00000000#32)
      = -Ideal.log (term p b i) := by
  unfold term
  by_cases hb : b i = 1#1
  · rw [hb, ValueIdx.select_one, ValueIdx.select_one]
  · rw [ValueIdx.eq_zero_of_ne_one hb, ValueIdx.select_zero, ValueIdx.select_zero, log_one, Ideal.ofBits_zero_f32, neg_zero]

/-- The reference's result, where the probabilities are not negative. -/
theorem value_eq (p : FVec Ideal S128x32768 .f32) (b : IVec S128x32768 1) (h : ∀ i, (0 : EReal) ≤ p i) :
    Host.divf (Host.reduceAdd (select b (Host.negf (Host.log (addf p (broadcastInDim S128x32768 ![] bcast_S_S128x32768
        (constant S_ .f32 0x33D6BF95#32))))) (broadcastInDim S128x32768 ![] bcast_S_S128x32768
          (id (constant S_ .f32 0x00000000#32)))) (constant S_ .f32 0x00000000#32) reducesTo_S128x32768_S_d0_1 h_S_)
      (constant S_ .f32 0x43000000#32)
      = fun _ => Ideal.div (-∑ i, Ideal.log (term p b i)) (Ideal.ofBits .f32 0x43000000#32) := by
  funext j
  rw [(neg_sum Finset.univ (fun i => Ideal.log (term p b i)) fun i => log_ne_bot (term_pos p b i (h i))).2]
  rw [ValueIdx.hostDivf_apply, ValueIdx.hostReduceAdd_apply, Ideal.hostReduceAdd_total _ fun d => d.elim0]
  refine congrArg (fun a : EReal => Ideal.div a (Ideal.ofBits .f32 0x43000000#32)) ?_
  change Ideal.ofBits .f32 0x00000000#32 + _ = _
  rw [Ideal.ofBits_zero_f32, zero_add]
  exact Finset.sum_congr rfl fun i _ => summand_eq p b i

end Cert.ReferenceIdeal.Result
end
-- ==== Proof.Pre.lean ====
/- What the precondition says of a device's arguments. -/
module

public import proofs.«01_k».proof.Pre_nonneg
public import Idealize.ShloMosaic.Lib.IdealHost
public import Idealize.ShloMosaic.Lib.ReduceAll

@[expose] public section
noncomputable section
namespace Cert.Pre_nonneg
open Idealize.ShloMosaic

instance facts : Facts := ⟨by decide, by decide, by decide⟩

/-- The precondition's one word is one only where no probability is negative. -/
theorem nonneg (p : FVec Ideal S128x32768 .f32) (b : IVec S128x32768 1) (h : fn (F := Ideal) p b = fun _ => 1#1)
    (i : S128x32768.Idx) : (0 : EReal) ≤ p i := by
  have h0 := congrFun h (Shape.Idx.first facts.h_S_)
  haveI : Subsingleton S_.Idx := ⟨fun a b => funext fun d => d.elim0⟩
  have h1 := Host.reduce_andi_all _ _ _ _ _ h0 i
  change Ideal.cmp .oge (p i) (Ideal.ofBits .f32 0x00000000#32) = 1#1 at h1
  rw [Ideal.ofBits_zero_f32] at h1
  by_contra hn
  have : decide ((0 : EReal) ≤ p i) = false := decide_eq_false hn
  simp [Ideal.cmp, this] at h1

end Cert.Pre_nonneg
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Run
public import proofs.«01_k».proof.Proof.Reference
public import proofs.«01_k».proof.Proof.Pre

@[expose] public section

noncomputable section

namespace Cert.Proof

open Idealize.ShloMosaic Idealize.SL.Sem

/-- The reference runs, leaves its arguments unchanged and leaves every counter at zero. -/
theorem frame_reference : Cert.quiescent_ReferenceIdeal :=
  fun m g _ => θ_run_mono (Cert.ReferenceIdeal.Value.run m g) fun r h =>
    ⟨fun c => (h c).2, sem_eq_zero_of_no_sems (by decide) r.2⟩

/-- The kernel's named constant reads, over the extended reals, as the logarithm of two. -/
theorem preserves : Cert.preserves_Kernel_KernelIdeal :=
  IdealRules.named_const.statement Cert.KernelIdeal.κ "ln2" .f32 0x3F317218#32 ((Real.log 2 : ℝ) : EReal) rfl

/-- Where no probability is negative, the kernel and the reference end with one value. -/
theorem algebraic : Cert.algebraic_KernelIdeal_ReferenceIdeal_pre_nonneg := by
  intro m g m' g' hpre hagree
  have hc : ∀ c i, 0 ≤ KernelIdeal.Blocks.probs m c i := fun c => Pre_nonneg.nonneg _ _ (hpre c)
  refine ⟨fun c => _, KernelIdeal.Run.run m g hc, ?_⟩
  refine θ_run_mono (ReferenceIdeal.Value.run m' g') fun r h c => ⟨?_, (h c).2⟩
  rw [(h c).1, (hagree c).1, (hagree c).2]
  exact ReferenceIdeal.Result.value_eq _ _ (hc c)

/-- All the claims, with the facts that the programs and the precondition state. -/
theorem claim : Cert.Claim :=
  ⟨Cert.Kernel.Gen.facts, Cert.KernelIdeal.Gen.facts, Cert.ReferenceIdeal.Gen.facts, Cert.Pre_nonneg.facts,
    fun m g _ => Cert.Kernel.Gen.frame m g, fun m g _ => Cert.KernelIdeal.Gen.frame m g,
    fun m g _ => Cert.KernelIdeal.Gen.frame m g, frame_reference, fun m g _ => frame_reference m g trivial,
    preserves, algebraic⟩

end Cert.Proof

end
